-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S26x4096 : Shape := ⟨2, ![26, 4096]⟩
abbrev S26x1x4096 : Shape := ⟨3, ![26, 1, 4096]⟩
abbrev S26x1000x4096 : Shape := ⟨3, ![26, 1000, 4096]⟩
abbrev S1x1x1024 : Shape := ⟨3, ![1, 1, 1024]⟩
abbrev S1x1000x1024 : Shape := ⟨3, ![1, 1000, 1024]⟩
abbrev S4096x26x1000 : Shape := ⟨3, ![4096, 26, 1000]⟩

abbrev nBuf : Space → Nat
  | .hbm => 5
  | .vmem => 4
  | .smem => 0
  | _ => 0

abbrev bufTy : (tb : Table) → Fin (tcTables nBuf tb) → BufTy
  | .hbm, ⟨0, _⟩ => ⟨S4096x26, .i32⟩
  | .hbm, ⟨1, _⟩ => ⟨S26x4096, .i32⟩
  | .hbm, ⟨2, _⟩ => ⟨S26x1x4096, .i32⟩
  | .hbm, ⟨3, _⟩ => ⟨S26x1000x4096, .i32⟩
  | .hbm, ⟨4, _⟩ => ⟨S4096x26x1000, .i32⟩
  | .local _ .vmem, ⟨0, _⟩ => ⟨S1x1x1024, .i32⟩
  | .local _ .vmem, ⟨1, _⟩ => ⟨S1x1x1024, .i32⟩
  | .local _ .vmem, ⟨2, _⟩ => ⟨S1x1000x1024, .i32⟩
  | .local _ .vmem, ⟨3, _⟩ => ⟨S1x1000x1024, .i32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![26, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4096x26 : Shape := ⟨2, ![4096, 26]⟩
abbrev S4096x26x1 : Shape := ⟨3, ![4096, 26, 1]⟩
abbrev S1000 : Shape := ⟨1, ![1000]⟩
abbrev S1x1x1000 : Shape := ⟨3, ![1, 1, 1000]⟩
abbrev S4096x26x1000 : Shape := ⟨3, ![4096, 26, 1000]⟩

abbrev nBuf : Space → Nat
  | .hbm => 8
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1000, .i32⟩
  | .hbm, ⟨3, _⟩ => ⟨S1x1x1000, .i32⟩
  | .hbm, ⟨4, _⟩ => ⟨S4096x26x1000, .i32⟩
  | .hbm, ⟨5, _⟩ => ⟨S4096x26x1000, .i32⟩
  | .hbm, ⟨6, _⟩ => ⟨S4096x26x1000, .i1⟩
  | .hbm, ⟨7, _⟩ => ⟨S4096x26x1000, .i32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Proof.OneHot.lean ====
/-
  The mathematics of one-hot encoding, free of any program: the word at class `k` of a label `a`, the (4096, 26, 1000)
  array of those words, and its transpose (26, 1000, 4096), the layout in which the kernel produces it.
-/
module

public import proofs.«01_k».proof.KernelIdeal
public import Idealize.ShloMosaic.Lib.Pointwise

@[expose] public section

noncomputable section

namespace Cert.OneHot

open Idealize.ShloMosaic
open Cert.KernelIdeal (S4096x26 S26x1000x4096 S4096x26x1000)

/-- The word at class `k` of the one-hot row of label `a`: one where the label is the class, zero elsewhere. -/
def hot (a : BitVec 32) (k : Nat) : BitVec 32 := if a = BitVec.ofNat 32 k then 1#32 else 0#32

/-- Both programs compute it as the comparison of the label with the class number, widened to 32 bits. -/
theorem widen_cmpi (a : BitVec 32) (k : Nat) : (IntOp.cmpi .eq a (BitVec.ofNat 32 k)).setWidth 32 = hot a k := by
  unfold hot IntOp.cmpi
  by_cases h : a = BitVec.ofNat 32 k
  · simp [h]
  · simp [beq_eq_false_iff_ne.mpr h, h]

/-- The one-hot array of the labels `x`: at row `n`, column `b`, class `k` the word `hot x[n, b] k`. -/
def encode (x : IVec S4096x26 32) : IVec S4096x26x1000 32 := fun i => hot (x (ix2 (i 0) (i 1))) (i 2 : Nat)

/-- The same words laid out column, class, row. -/
def encodeT (x : IVec S4096x26 32) : IVec S26x1000x4096 32 := fun i => hot (x (ix2 (i 2) (i 0))) (i 1 : Nat)

end Cert.OneHot

end
-- ==== Proof.KernelValue.lean ====
/-
  What the kernel computes. The host transposes the labels to (26, 4096) and views them as (26, 1, 4096); each of the
  26 × 4 grid points turns a run of 1024 labels of one column into a (1, 1000, 1024) block of one-hot words; the blocks
  tile the (26, 1000, 4096) array; the host transposes that to (4096, 26, 1000). Here: the labels as a grid point sees
  them (`labels_apply`), one block's words (`block_apply`), the array that the blocks fill (`final_o`), and the run with
  the result at the one-hot array of the argument (`run`).
-/
module

public import proofs.«01_k».proof.Proof.OneHot
public import proofs.«01_k».proof.Proof.Gen.KernelIdeal.Frame
public import Idealize.ShloMosaic.Lib.Pipeline.ValueKit
public import Idealize.ShloMosaic.Lib.Pointwise
public import Idealize.ShloMosaic.Lib.StableHlo.Run

@[expose] public section

noncomputable section

namespace Cert.KernelValue

open Cert.KernelIdeal Cert.KernelIdeal.Gen Cert.OneHot
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The labels, as device `c` is launched with them. -/
abbrev labels (c : Dev nD) : IVec S4096x26 32 := m ((c : Thread nD τ).loc main_arg0)

/-- The region finds in its input array the labels transposed and viewed as (26, 1, 4096). -/
theorem entry_eq (c : Dev nD) : V m c main_v1
    = shapeCast S26x1x4096 (transpose S26x4096 [1, 0] (labels m c) transposes_S4096x26_S26x4096_1_0)
        shapeCasts_S26x4096_S26x1x4096 := by
  unfold_abbrev_sides
  after_results
  rfl

/-- One element of that array: column `b`, row `n` of the transposed view is row `n`, column `b` of the labels. -/
theorem labels_apply (c : Dev nD) (b : Fin 26) (u : Fin 1) (n : Fin 4096) :
    V m c main_v1 (ix3 b u n) = labels m c (ix2 n b) := by
  rw [entry_eq]
  pointwise

/-- One block: at class `k`, lane `l` it holds the one-hot word of the label at lane `l`. -/
theorem block_apply (x : Vec F S1x1x1024 .i32) (y : S1x1000x1024.Idx) :
    k0_pay1 x y = hot (x (ix3 0 0 (y 2))) (y 1 : Nat) := by
  pointwise [k0_pay1, widen_cmpi]

/-- Grid point `t` reads the block at its column and its run of rows, -/
theorem in_index (t : Fin cfg0.N) : win0_0.index t = ![(grid0.coords t 0).val, 0, (grid0.coords t 1).val] :=
  (by decide +kernel : ∀ t : Fin grid0.N, win0_0.index t = ![(grid0.coords t 0).val, 0, (grid0.coords t 1).val]) t

/-- and writes the block at the same place. -/
theorem out_index (t : Fin cfg0.N) : win0_1.index t = ![(grid0.coords t 0).val, 0, (grid0.coords t 1).val] :=
  (by decide +kernel : ∀ t : Fin grid0.N, win0_1.index t = ![(grid0.coords t 0).val, 0, (grid0.coords t 1).val]) t

/-- The region's result array ends holding the transposed one-hot array of the labels. -/
theorem final_o (c : Dev nD) : (dats m 0 c).arrAt 1 cfg0.N = encodeT (labels m c) := by
  refine (dats m 0 c).arrAt_eq_of_covers 1 _ (by decide +kernel) fun t hf y => ?_
  blk_simp
  rw [after0_1]
  frame_out
  rw [block_apply]
  unfold encodeT
  blk_simp [iblk, in_index t, out_index t]
  -- the label that lane `y 2` of the input block is: the one at the output element's column and row
  have e : (win0_0.blk t).view.emb (ix3 0 0 (y 2))
      = ix3 ((win0_1.blk t).view.emb y 0) 0 ((win0_1.blk t).view.emb y 2) := by
    blk_ext [in_index t, out_index t]
  rw [e]
  exact congrArg (fun a => hot a (y 1 : Nat)) (labels_apply m c _ _ _)

/-- The host's last line turns it into the one-hot array. -/
theorem result_eq (c : Dev nD) :
    Pipeline.afterTail₀ cfgs (dats m) 0 (V0 m) [hostOps1] c main_v3 = encode (labels m c) := by
  unfold Pipeline.afterTail₀
  simp only [hostOps1, List.flatten_cons, List.flatten_nil, List.append_nil]
  rw [StableHlo.after_cons, StableHlo.after_nil, StableHlo.unary_result]
  rw [show Pipeline.withArrays (cfgs 0).spec c (V0 m c) (fun w => (dats m 0 c).arrAt w (cfgs 0).N) (Proc.devRef .tc main_v2)
      = (dats m 0 c).arrAt 1 cfg0.N from Pipeline.withArrays_arr spec0 launch0.win.arr_inj c _ _ 1, final_o]
  funext i
  pointwise [encode, encodeT]

/-- The run: every weakly fair execution ends with the result at the one-hot array of the labels and the labels
    unchanged. -/
theorem run : θ_run defs (onTc (τ := τ) (main (F := F))) ⟨m, fun _ => 0, ρ⟩ fun r => ∀ c : Dev nD,
      r.2.mem ((c : Thread nD τ).loc main_v3) = encode (labels m c)
      ∧ r.2.mem ((c : Thread nD τ).loc main_arg0) = m ((c : Thread nD τ).loc main_arg0) :=
  (θ_run defs _ _).mono
    (fun _ h c => ⟨((h c).2 main_v3 (Pipeline.mem_restRefs_of main_v3 (by decide) (by decide))).trans (result_eq m c),
      ((h c).2 main_arg0 (Pipeline.mem_restRefs_of main_arg0 (by decide) (by decide))).trans (W_main_arg0 m (dats m) c)⟩)
    (run_main m ρ)

end Cert.KernelValue

end
-- ==== Proof.ReferenceValue.lean ====
/-
  What the reference computes: the labels and the class numbers 0 … 999, both spread over (4096, 26, 1000), compared and
  widened, are the one-hot array of the labels.
-/
module

public import proofs.«01_k».proof.Proof.OneHot
public import proofs.«01_k».proof.Proof.Gen.ReferenceIdeal.Run
public import Idealize.ShloMosaic.Lib.Pointwise

@[expose] public section

noncomputable section

namespace Cert.ReferenceValue

open Cert.ReferenceIdeal Cert.ReferenceIdeal.Gen Cert.OneHot
open Idealize.ShloMosaic Idealize.ShloMosaic.TcCoe Idealize.SL.Sem

variable {F : FTy → Type} [FloatOps F]

/-- The reference's composed operations on labels `x` are the one-hot array of `x`. -/
theorem value_eq (x : IVec S4096x26 32) :
    extui 32 (cmpi .eq
      (broadcastInDim S4096x26x1000 ![0, 1, 2] bcast_S4096x26x1_S4096x26x1000_0_1_2
        (broadcastInDim S4096x26x1 ![0, 1] bcast_S4096x26_S4096x26x1_0_1 x))
      (broadcastInDim S4096x26x1000 ![0, 1, 2] bcast_S1x1x1000_S4096x26x1000_0_1_2
        (broadcastInDim S1x1x1000 ![2] bcast_S1000_S1x1x1000_2 (iotaInDim S1000 32 0)))) natLt_1_32
      = encode x := by
  funext i
  pointwise [encode, widen_cmpi]

/-- The run: every weakly fair execution ends with the result at the one-hot array of the labels and the labels
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v6) = encode (m ((c : Thread nD τ).loc main_arg0))
      ∧ r.2.mem ((c : Thread nD τ).loc main_arg0) = m ((c : Thread nD τ).loc main_arg0) :=
  (θ_run defs _ _).mono (fun _ h c => ⟨(h c).1.trans (value_eq _), (h c).2⟩) (Cert.ReferenceIdeal.Value.run m ρ)

end Cert.ReferenceValue

end
-- ==== Proof.lean ====
/-
  The proof of `Cert.Claim`: the three frames, `preserves` (nothing was rewritten), and the algebraic claim — kernel
  and reference both end with the one-hot array of the labels (Proof/OneHot.lean `encode`), by Proof/KernelValue.lean
  and Proof/ReferenceValue.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.OneHot

/-- The kernel as printed runs, leaves its argument as it was, and every counter ends at zero. -/
theorem frame_kernel : Cert.quiescent_Kernel := fun m ρ _ => Cert.Kernel.Gen.frame m ρ

/-- So does the ideal program. -/
theorem frame_ideal : Cert.quiescent_KernelIdeal := fun m ρ _ => Cert.KernelIdeal.Gen.frame m ρ

/-- So does the reference: it runs host operations only and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceValue.run m ρ)

/-- Run on the same labels, kernel and reference end with the same array, the one-hot array of the labels. -/
theorem algebraic : Cert.algebraic_KernelIdeal_ReferenceIdeal := by
  intro m ρ m' ρ' _ hagree
  refine ⟨fun c => encode (Cert.KernelValue.labels m c), Cert.KernelValue.run m ρ, ?_⟩
  exact (θ_run Cert.ReferenceIdeal.defs _ _).mono
    (fun _ h c => ⟨(h c).1.trans (congrArg encode (hagree c)), (h c).2⟩)
    (Cert.ReferenceValue.run m' ρ')

/-- Every claim of this certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
